-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x64 : Shape := ⟨2, ![16384, 64]⟩
abbrev S1024x64 : Shape := ⟨2, ![1024, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16384x64 .f32) (main_arg1 : FVec F S1024x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S16384x64 : Shape := ⟨2, ![16384, 64]⟩
abbrev S1024x64 : Shape := ⟨2, ![1024, 64]⟩
abbrev S64x16384 : Shape := ⟨2, ![64, 16384]⟩
abbrev S64x1024 : Shape := ⟨2, ![64, 1024]⟩
abbrev S1x1 : Shape := ⟨2, ![1, 1]⟩
abbrev S1024 : Shape := ⟨1, ![1024]⟩
abbrev S1x1024 : Shape := ⟨2, ![1, 1024]⟩
abbrev S66x1024 : Shape := ⟨2, ![66, 1024]⟩
abbrev S2x16384 : Shape := ⟨2, ![2, 16384]⟩
abbrev S66x16384 : Shape := ⟨2, ![66, 16384]⟩
abbrev S1024x16384 : Shape := ⟨2, ![1024, 16384]⟩
abbrev S16384 : Shape := ⟨1, ![16384]⟩
abbrev S1x16384 : Shape := ⟨2, ![1, 16384]⟩
abbrev S1 : Shape := ⟨1, ![1]⟩
abbrev S_ : Shape := ⟨0, ![]⟩

abbrev nBuf : Space → Nat
  | .hbm => 6
  | .vmem => 2
  | .smem => 1
  | _ => 0

abbrev bufTy : (tb : Table) → Fin (tcTables nBuf tb) → BufTy
  | .hbm, ⟨0, _⟩ => ⟨S16384x64, .f32⟩
  | .hbm, ⟨1, _⟩ => ⟨S1024x64, .f32⟩
  | .hbm, ⟨2, _⟩ => ⟨S64x16384, .f32⟩
  | .hbm, ⟨3, _⟩ => ⟨S64x1024, .f32⟩
  | .hbm, ⟨4, _⟩ => ⟨S1x1, .f32⟩
  | .hbm, ⟨5, _⟩ => ⟨S_, .f32⟩
  | .local _ .vmem, ⟨0, _⟩ => ⟨S64x16384, .f32⟩
  | .local _ .vmem, ⟨1, _⟩ => ⟨S64x1024, .f32⟩
  | .local _ .smem, ⟨0, _⟩ => ⟨S1x1, .f32⟩
  | _, _ => ⟨S16384x64, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16384x64 : Shape := ⟨2, ![16384, 64]⟩
abbrev S1024x64 : Shape := ⟨2, ![1024, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩

abbrev nBuf : Space → Nat
  | .hbm => 28
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S1024x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S64x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Proof.Distance.lean ====
/- The mathematics of the deep-clustering loss over the extended reals: what one pair, one point and the mean are, on both
   sides, and why they agree when every coordinate is a number. -/
module

public import Idealize.ShloMosaic.PureOps.Ideal

@[expose] public section

noncomputable section

open Idealize.ShloMosaic

namespace Cert.Distance

/-- An extended real is a number: neither infinity. -/
def Num (x : EReal) : Prop := x ≠ ⊤ ∧ x ≠ ⊥

/-- A family of numbers is a family of reals, read as extended reals. -/
theorem lift_family {ι : Type} {f : ι → EReal} (h : ∀ i, Num (f i)) : ∃ g : ι → ℝ, f = fun i => (g i : EReal) :=
  ⟨fun i => (f i).toReal, funext fun i => (EReal.coe_toReal (h i).1 (h i).2).symm⟩

/-- The inclusion of the reals takes a sum to the sum. -/
theorem coe_sum {ι : Type} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- A sum of squares of numbers is a number. -/
theorem num_sumsq {n : ℕ} {u : Fin n → EReal} (hu : ∀ i, Num (u i)) : Num (∑ k, u k * u k) := by
  obtain ⟨a, rfl⟩ := lift_family hu
  simp only [← EReal.coe_mul, coe_sum]
  exact ⟨EReal.coe_ne_top _, EReal.coe_ne_bot _⟩

/-- ONE PAIR. The squared norm of the point plus the contraction with −2 times the centre, the centre's squared norm and the
    rest that its rounding leaves (zero over the reals) is the expanded squared distance of point `u` and centre `v`. -/
theorem pair {n : ℕ} {u v : Fin n → EReal} (hu : ∀ i, Num (u i)) (hv : ∀ i, Num (v i)) :
    (∑ k, u k * u k) + ((∑ k, ((-2 : ℝ) : EReal) * v k * u k)
        + ((∑ k, v k * v k) + ((∑ k, v k * v k) - ∑ k, v k * v k)))
      = (∑ k, u k * u k) + (∑ k, v k * v k) - ((2 : ℝ) : EReal) * ∑ k, u k * v k := by
  obtain ⟨a, rfl⟩ := lift_family hu
  obtain ⟨b, rfl⟩ := lift_family hv
  simp only [← EReal.coe_mul, coe_sum, ← EReal.coe_add, ← EReal.coe_sub]
  refine congrArg _ ?_
  have h : ∑ k, -2 * b k * a k = -2 * ∑ k, a k * b k := by
    rw [Finset.mul_sum]; exact Finset.sum_congr rfl fun k _ => by ring
  rw [h]; ring

/-- ONE POINT. Adding a number to a least element and clamping below at zero is the least of the sums clamped one by one:
    both operations are monotone, and they leave `⊤`, the least of no elements, where it is. -/
theorem clamp_min {ι : Type} (s : Finset ι) {a : EReal} (ha : a ≠ ⊥) (f : ι → EReal) :
    max (a + s.fold min ⊤ f) 0 = s.fold min ⊤ fun j => max (a + f j) 0 := by
  have hmono : Monotone fun x : EReal => max (a + x) 0 := fun x y h => max_le_max (add_le_add le_rfl h) le_rfl
  have h := Finset.fold_hom (op := min) (op' := min) (b := (⊤ : EReal)) (s := s) (f := f)
    (m := fun x : EReal => max (a + x) 0) fun x y => hmono.map_min
  rw [← h]
  refine congrArg (fun b => s.fold min b _) ?_
  rw [EReal.add_top_of_ne_bot ha, max_eq_left le_top]

/-- The loss: the mean, over the 16384 points, of the least clamped squared distance to one of the 1024 centres. -/
def loss (e : Fin 16384 → Fin 64 → EReal) (c : Fin 1024 → Fin 64 → EReal) : EReal :=
  Ideal.div (∑ n, Finset.univ.fold min ⊤ fun j =>
      max ((∑ k, e n k * e n k) + (∑ k, c j k * c j k) - ((2 : ℝ) : EReal) * ∑ k, e n k * c j k) 0)
    ((16384 : ℝ) : EReal)

/-- ALL POINTS, for any numbers `N` of points, `M` of centres and `K` of coordinates: the points' clamped least distances,
    taken in the one-contraction form, sum to the points' least clamped distances in the expanded form. -/
theorem sum_eq {N M K : ℕ} {e : Fin N → Fin K → EReal} {c : Fin M → Fin K → EReal}
    (he : ∀ n k, Num (e n k)) (hc : ∀ j k, Num (c j k)) :
    (∑ n, max ((∑ k, e n k * e n k) + Finset.univ.fold min ⊤ fun j =>
        (∑ k, ((-2 : ℝ) : EReal) * c j k * e n k)
          + ((∑ k, c j k * c j k) + ((∑ k, c j k * c j k) - ∑ k, c j k * c j k))) 0)
      = ∑ n, Finset.univ.fold min ⊤ fun j =>
        max ((∑ k, e n k * e n k) + (∑ k, c j k * c j k) - ((2 : ℝ) : EReal) * ∑ k, e n k * c j k) 0 := by
  refine Finset.sum_congr rfl fun n _ => ?_
  rw [clamp_min _ (num_sumsq (he n)).2]
  simp only [pair (he n) (hc _)]

/-- THE WHOLE: the sum of the points' clamped least distances, taken in the one-contraction form and scaled by 2⁻¹⁴, is the
    loss. -/
theorem scaled_sum_eq_loss {e : Fin 16384 → Fin 64 → EReal} {c : Fin 1024 → Fin 64 → EReal}
    (he : ∀ n k, Num (e n k)) (hc : ∀ j k, Num (c j k)) :
    (∑ n, max ((∑ k, e n k * e n k) + Finset.univ.fold min ⊤ fun j =>
        (∑ k, ((-2 : ℝ) : EReal) * c j k * e n k)
          + ((∑ k, c j k * c j k) + ((∑ k, c j k * c j k) - ∑ k, c j k * c j k))) 0)
      * ((1 / 16384 : ℝ) : EReal) = loss e c := by
  unfold loss
  rw [Ideal.div_coe (by norm_num), sum_eq he hc]

/-- SPLITTING THE CONTRACTION. A sum over 66 places is the sum over the first 64, plus the 65th, plus the 66th. -/
theorem sum_66 (f : Fin 66 → EReal) :
    ∑ i, f i = (∑ k : Fin 64, f ⟨k.1, by omega⟩) + (f ⟨64, by omega⟩ + f ⟨65, by omega⟩) := by
  rw [Fin.sum_univ_castSucc, Fin.sum_univ_castSucc, add_assoc]
  rfl

end Cert.Distance

end
-- ==== Proof.Literals.lean ====
/- The numbers that the f32 literals of the kernel, the reference and the precondition are. -/
module

public import Idealize.ShloMosaic.PureOps.Ideal

@[expose] public section

noncomputable section

open Idealize.ShloMosaic

namespace Cert.Literals

/-- The f32 literal 0.0 is the number 0. -/
theorem zero : Ideal.ofBits FTy.f32 0#32 = 0 := by
  simp [Ideal.ofBits, Ideal.ieee]

/-- The f32 literal −2.0 is the number −2. -/
theorem neg_two : Ideal.ofBits FTy.f32 3221225472#32 = ((-2 : ℝ) : EReal) := by
  simp [Ideal.ofBits, Ideal.ieee, -EReal.coe_mul, -EReal.coe_neg]; norm_num

/-- The f32 literal 2.0 is the number 2. -/
theorem two : Ideal.ofBits FTy.f32 1073741824#32 = ((2 : ℝ) : EReal) := by
  simp [Ideal.ofBits, Ideal.ieee, -EReal.coe_mul, -EReal.coe_neg]; norm_num

/-- The f32 literal +∞ is `⊤`. -/
theorem inf : Ideal.ofBits FTy.f32 2139095040#32 = ⊤ := by
  simp [Ideal.ofBits, Ideal.ieee]

/-- The f32 literal 2⁻¹⁴ is the number 1/16384. -/
theorem scale : Ideal.ofBits FTy.f32 947912704#32 = ((1 / 16384 : ℝ) : EReal) := by
  simp [Ideal.ofBits, Ideal.ieee, -EReal.coe_mul, -EReal.coe_neg]; norm_num

/-- The f32 literal 16384.0 is the number 16384. -/
theorem count : Ideal.ofBits FTy.f32 1182793728#32 = ((16384 : ℝ) : EReal) := by
  simp [Ideal.ofBits, Ideal.ieee, -EReal.coe_mul, -EReal.coe_neg]; norm_num

end Cert.Literals

end
-- ==== Proof.Finite.lean ====
/- What the precondition says: every coordinate of the points and of the centres is a number. -/
module

public import proofs.«01_k».proof.Proof.Gen.Pre_finite
public import proofs.«01_k».proof.Proof.Distance
public import proofs.«01_k».proof.Proof.Literals
public import Idealize.ShloMosaic.Lib.Pointwise
public import Idealize.ShloMosaic.Lib.ReduceAll

@[expose] public section

set_option maxRecDepth 16384

noncomputable section

open Idealize.ShloMosaic

namespace Cert.Finite

/-- A conjunction over a finite set of one-bit words that is 1 has only 1s. -/
theorem all_of_fold {ι : Type} (s : Finset ι) (f : ι → BitVec 1) (h : s.fold IntOp.andi 1#1 f = 1#1) :
    ∀ i ∈ s, f i = 1#1 := by
  classical
  induction s using Finset.induction_on with
  | empty => exact fun i hi => absurd hi (Finset.notMem_empty i)
  | insert a s ha ih =>
    rw [Finset.fold_insert ha] at h
    obtain ⟨h1, h2⟩ := IntOp.andi_eq_one.1 h
    intro i hi
    rcases Finset.mem_insert.1 hi with rfl | hi
    exacts [h1, ih h2 i hi]

/-- An extended real whose absolute value is below `⊤` is a number. -/
theorem num_of_abs_lt {x : EReal} (h : max x (-x) < ⊤) : Distance.Num x := by
  refine ⟨fun e => ?_, fun e => ?_⟩ <;> subst e <;> simp at h

/-- A truth value whose one-bit word is 1 is true. -/
theorem of_bit {p : Prop} [Decidable p] (h : BitVec.ofBool (decide p) = 1#1) : p := by
  by_contra hn
  rw [decide_eq_false hn] at h
  exact absurd h (by decide)

/-- The precondition: where it holds, every coordinate of every point and of every centre is a number. -/
theorem num (x : FVec Ideal Cert.Pre_finite.S16384x64 .f32) (y : FVec Ideal Cert.Pre_finite.S1024x64 .f32)
    (h : Cert.Pre_finite.fn (F := Ideal) x y = fun _ => 1#1) :
    (∀ n k, Distance.Num (x (ix2 n k))) ∧ ∀ j k, Distance.Num (y (ix2 j k)) := by
  have h0 := congrFun h (fun a => a.elim0)
  pointwise [Cert.Pre_finite.fn] at h0
  rw [Literals.inf] at h0
  obtain ⟨hx, hy⟩ := IntOp.andi_eq_one.1 h0
  replace hx := all_of_fold _ _ hx
  replace hy := all_of_fold _ _ hy
  constructor
  · intro n k
    have := hx (n, k) (by simp)
    exact num_of_abs_lt (of_bit this)
  · intro j k
    have := hy (j, k) (by simp)
    exact num_of_abs_lt (of_bit this)

end Cert.Finite

end
-- ==== Proof.Payload.lean ====
/- What the kernel's body writes, as mathematics. -/
module

public import proofs.«01_k».proof.Proof.Gen.KernelIdeal.Skeleton
public import proofs.«01_k».proof.Proof.Distance
public import proofs.«01_k».proof.Proof.Literals
public import Idealize.ShloMosaic.Lib.Pointwise

@[expose] public section

set_option maxRecDepth 16384

noncomputable section

open Idealize.ShloMosaic Idealize.ShloMosaic.TcCoe Idealize.SL.Sem

namespace Cert.KernelIdeal.Payload

open Cert.KernelIdeal Cert.KernelIdeal.Gen

/-- What the kernel writes, from its two transposed arguments and the zero its accumulator starts with: the loss of the
    points and the centres those arguments hold, if every coordinate is a number. -/
theorem pay (x : Vec Ideal S64x16384 .f32) (y : Vec Ideal S64x1024 .f32)
    (e : Fin 16384 → Fin 64 → EReal) (c : Fin 1024 → Fin 64 → EReal)
    (hx : ∀ n k, x (ix2 k n) = e n k) (hy : ∀ j k, y (ix2 k j) = c j k)
    (he : ∀ n k, Distance.Num (e n k)) (hc : ∀ j k, Distance.Num (c j k)) :
    k0_pay1 (F := Ideal) x y (0 : EReal) = Distance.loss e c := by
  rw [← Distance.scaled_sum_eq_loss he hc]
  pointwise [k0_pay1]
  simp only [Distance.sum_66, Literals.inf, Literals.neg_two, Literals.scale, hx, hy]
  simp

end Cert.KernelIdeal.Payload

end
-- ==== Proof.KernelArray.lean ====
/- The kernel's result array: one grid point, which reads both transposed arguments whole and writes one word. -/
module

public import proofs.«01_k».proof.Proof.Gen.KernelIdeal.Frame
public import proofs.«01_k».proof.Proof.Payload
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.KernelArray

open Cert.KernelIdeal Cert.KernelIdeal.Gen

variable (m : (ℓ : Loc nD τ sig) → Buf (Elt Ideal) ℓ) (ρ : Dev nD → PrngReg)

/-- Every window's block index is zero: the grid has one point. -/
theorem idx : ∀ t : Fin cfg0.N, win0_0.index t = ![0, 0] ∧ win0_1.index t = ![0, 0] ∧ win0_2.index t = ![0, 0] :=
  (by decide +kernel : ∀ t : Fin grid0.N, _)

/-- The array the region leaves: the body's one written word, of the two transposed arguments. -/
theorem final (c : Dev nD) : (dats m 0 c).arrAt 2 (cfgs 0).N
    = fun _ => k0_pay1 (F := Ideal) (transpose S64x16384 [1, 0] (m ((c : Thread nD τ).loc main_arg0)) transposes_S16384x64_S64x16384_1_0)
        (transpose S64x1024 [1, 0] (m ((c : Thread nD τ).loc main_arg1)) transposes_S1024x64_S64x1024_1_0) (0 : EReal) := by
  refine (dats m 0 c).arrAt_eq_of_covers 2 _ (by decide +kernel) fun t _ y => ?_
  blk_simp
  rw [after0_2]
  unfold outsAt0 out0_A_2
  frame_out
  have h0 : iblk m c 0 t = transpose S64x16384 [1, 0] (m ((c : Thread nD τ).loc main_arg0)) transposes_S16384x64_S64x16384_1_0 := by
    blk_ext! [iblk, V, idx t]
  have h1 : iblk m c 1 t = transpose S64x1024 [1, 0] (m ((c : Thread nD τ).loc main_arg1)) transposes_S1024x64_S64x1024_1_0 := by
    blk_ext! [iblk, V, idx t]
  rw [h0, h1]
  exact congrArg _ Literals.zero

/-- THE KERNEL'S RUN. Where every coordinate is a number, the kernel's result is the loss of the points and centres it is
    given. -/
theorem result (hnum : ∀ c : Dev nD,
      (∀ n k, Distance.Num ((m ((c.tc : Thread nD τ).loc main_arg0) : FVec Ideal S16384x64 .f32) (ix2 n k)))
      ∧ ∀ j k, Distance.Num ((m ((c.tc : Thread nD τ).loc main_arg1) : FVec Ideal S1024x64 .f32) (ix2 j k))) :
    θ_run defs (onTc (τ := τ) (main (F := Ideal))) ⟨m, fun _ => 0, ρ⟩ fun r => ∀ c : Dev nD,
      r.2.mem ((c.tc : Thread nD τ).loc main_v3)
        = fun _ => Distance.loss (fun n k => (m ((c.tc : Thread nD τ).loc main_arg0) : FVec Ideal S16384x64 .f32) (ix2 n k))
            (fun j k => (m ((c.tc : Thread nD τ).loc main_arg1) : FVec Ideal S1024x64 .f32) (ix2 j k)) := by
  run_from Cert.KernelIdeal.Gen.run_main m ρ
  have hv : Pipeline.withArrays (cfgs 0).spec c (V0 m c) (fun w => (dats m 0 c).arrAt w (cfgs 0).N) (Proc.tc.devRef main_v2)
      = fun _ => k0_pay1 (F := Ideal) (transpose S64x16384 [1, 0] (m ((c : Thread nD τ).loc main_arg0)) transposes_S16384x64_S64x16384_1_0)
        (transpose S64x1024 [1, 0] (m ((c : Thread nD τ).loc main_arg1)) transposes_S1024x64_S64x1024_1_0) (0 : EReal) :=
    (Pipeline.withArrays_arr (cfgs 0).spec (by decide) c (V0 m c) (fun w => (dats m 0 c).arrAt w (cfgs 0).N) 2).trans
      (final m c)
  unfold Pipeline.afterTail₀
  show StableHlo.after hostOps1 _ _ = _
  unfold hostOps1
  after_results
  rw [hv]
  funext j
  exact Payload.pay _ _ _ _ (fun n k => by pointwise) (fun j k => by pointwise) (hnum c).1 (hnum c).2

end Cert.KernelIdeal.KernelArray

end
-- ==== Proof.RefTerm.lean ====
/- What the reference returns: the loss, by its definition. -/
module

public import proofs.«01_k».proof.Proof.Gen.ReferenceIdeal
public import proofs.«01_k».proof.Proof.Distance
public import proofs.«01_k».proof.Proof.Literals
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ReferenceIdeal.RefTerm

open Cert.ReferenceIdeal Cert.ReferenceIdeal.Gen

/-- The reference's result is the loss of the points and centres it is given. -/
theorem ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
        = fun _ => Distance.loss (fun n k => (m ((c.tc : Thread nD τ).loc main_arg0) : FVec Ideal S16384x64 .f32) (ix2 n k))
            (fun j k => (m ((c.tc : Thread nD τ).loc main_arg1) : FVec Ideal S1024x64 .f32) (ix2 j k)) := by
  hlo_run
  funext j
  pointwise
  simp only [Literals.inf, Literals.two, Literals.count]
  rfl

end Cert.ReferenceIdeal.RefTerm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Distance
public import proofs.«01_k».proof.Proof.Literals
public import proofs.«01_k».proof.Proof.Finite
public import proofs.«01_k».proof.Proof.Payload
public import proofs.«01_k».proof.Proof.KernelArray
public import proofs.«01_k».proof.Proof.RefTerm
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments unchanged and ends with every semaphore counter at zero. -/
theorem reference_frame [Cert.Pre_finite.Facts] : Cert.quiescent_ReferenceIdeal := by
  intro m g _
  hlo_run
  · exact fun _ => ⟨trivial, trivial⟩
  · exact sem_eq_zero_of_no_sems (sig := Cert.ReferenceIdeal.sig) (by decide) _

/-- Where every coordinate is a number, the idealized kernel and the reference return the same loss and leave their
    arguments unchanged. -/
theorem value : Cert.algebraic_KernelIdeal_ReferenceIdeal_pre_finite := by
  intro m g m' g' hpre hag
  have hk := Cert.KernelIdeal.KernelArray.result m g fun c => Finite.num _ _ (hpre c)
  have hr := Cert.ReferenceIdeal.RefTerm.ref m' g'
  have fk := Cert.KernelIdeal.Gen.frame m g
  have fr := reference_frame m' g' trivial
  refine ⟨_, θ_run_mono (θ_run_and hk fk) fun r h c => ⟨h.1 c, h.2.1 c⟩,
    θ_run_mono (θ_run_and hr fr) fun r h c => ⟨(h.1 c).trans ?_, h.2.1 c⟩⟩
  rw [(hag c).1, (hag c).2]
  rfl

/-- Everything the certificate claims: the frames of the three programs, the idealization, and the value of the result. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial, value⟩

end Cert.Proof

end
